-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192 : Shape := ⟨2, ![4, 8192]⟩
abbrev S2x512 : Shape := ⟨2, ![2, 512]⟩
abbrev S512 : Shape := ⟨1, ![512]⟩
abbrev S512x256 : Shape := ⟨2, ![512, 256]⟩
abbrev S256 : Shape := ⟨1, ![256]⟩
abbrev S1x32768 : Shape := ⟨2, ![1, 32768]⟩
abbrev S1x512 : Shape := ⟨2, ![1, 512]⟩
abbrev S1x256 : Shape := ⟨2, ![1, 256]⟩
abbrev S32768x256 : Shape := ⟨2, ![32768, 256]⟩
abbrev S4x8192x256 : Shape := ⟨3, ![4, 8192, 256]⟩
abbrev S1x2048 : Shape := ⟨2, ![1, 2048]⟩
abbrev S2048x256 : Shape := ⟨2, ![2048, 256]⟩
abbrev S3x2048 : Shape := ⟨2, ![3, 2048]⟩
abbrev S3x512 : Shape := ⟨2, ![3, 512]⟩
abbrev S2048x512 : Shape := ⟨2, ![2048, 512]⟩

abbrev nBuf : Space → Nat
  | .hbm => 12
  | .vmem => 10
  | .smem => 0
  | _ => 0

abbrev bufTy : (tb : Table) → Fin (tcTables nBuf tb) → BufTy
  | .hbm, ⟨0, _⟩ => ⟨S4x8192, .f32⟩
  | .hbm, ⟨1, _⟩ => ⟨S4x8192, .f32⟩
  | .hbm, ⟨2, _⟩ => ⟨S2x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S1x32768, .f32⟩
  | .hbm, ⟨7, _⟩ => ⟨S1x32768, .f32⟩
  | .hbm, ⟨8, _⟩ => ⟨S1x512, .f32⟩
  | .hbm, ⟨9, _⟩ => ⟨S1x256, .f32⟩
  | .hbm, ⟨10, _⟩ => ⟨S32768x256, .f32⟩
  | .hbm, ⟨11, _⟩ => ⟨S4x8192x256, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S2x512, .f32⟩
  | .local _ .vmem, ⟨5, _⟩ => ⟨S1x512, .f32⟩
  | .local _ .vmem, ⟨6, _⟩ => ⟨S512x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | _, _ => ⟨S4x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x8192 : Shape := ⟨2, ![4, 8192]⟩
abbrev S2x512 : Shape := ⟨2, ![2, 512]⟩
abbrev S512 : Shape := ⟨1, ![512]⟩
abbrev S512x256 : Shape := ⟨2, ![512, 256]⟩
abbrev S256 : Shape := ⟨1, ![256]⟩
abbrev S4x8192x1 : Shape := ⟨3, ![4, 8192, 1]⟩
abbrev S4x8192x2 : Shape := ⟨3, ![4, 8192, 2]⟩
abbrev S4x8192x512 : Shape := ⟨3, ![4, 8192, 512]⟩
abbrev S1x1x512 : Shape := ⟨3, ![1, 1, 512]⟩
abbrev S_ : Shape := ⟨0, ![]⟩
abbrev S4x8192x256 : Shape := ⟨3, ![4, 8192, 256]⟩
abbrev S1x1x256 : Shape := ⟨3, ![1, 1, 256]⟩

abbrev nBuf : Space → Nat
  | .hbm => 26
  | .vmem => 0
  | .smem => 0
  | _ => 0

abbrev bufTy : (tb : Table) → Fin (tcTables nBuf tb) → BufTy
  | .hbm, ⟨0, _⟩ => ⟨S4x8192, .f32⟩
  | .hbm, ⟨1, _⟩ => ⟨S4x8192, .f32⟩
  | .hbm, ⟨2, _⟩ => ⟨S2x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S4x8192x1, .f32⟩
  | .hbm, ⟨7, _⟩ => ⟨S4x8192x1, .f32⟩
  | .hbm, ⟨8, _⟩ => ⟨S4x8192x2, .f32⟩
  | .hbm, ⟨9, _⟩ => ⟨S4x8192x512, .f32⟩
  | .hbm, ⟨10, _⟩ => ⟨S1x1x512, .f32⟩
  | .hbm, ⟨11, _⟩ => ⟨S4x8192x512, .f32⟩
  | .hbm, ⟨12, _⟩ => ⟨S4x8192x512, .f32⟩
  | .hbm, ⟨13, _⟩ => ⟨S4x8192x512, .f32⟩
  | .hbm, ⟨14, _⟩ => ⟨S4x8192x512, .f32⟩
  | .hbm, ⟨15, _⟩ => ⟨S_, .f32⟩
  | .hbm, ⟨16, _⟩ => ⟨S4x8192x512, .f32⟩
  | .hbm, ⟨17, _⟩ => ⟨S4x8192x512, .f32⟩
  | .hbm, ⟨18, _⟩ => ⟨S_, .f32⟩
  | .hbm, ⟨19, _⟩ => ⟨S4x8192x512, .f32⟩
  | .hbm, ⟨20, _⟩ => ⟨S4x8192x512, .f32⟩
  | .hbm, ⟨21, _⟩ => ⟨S4x8192x512, .f32⟩
  | .hbm, ⟨22, _⟩ => ⟨S4x8192x256, .f32⟩
  | .hbm, ⟨23, _⟩ => ⟨S1x1x256, .f32⟩
  | .hbm, ⟨24, _⟩ => ⟨S4x8192x256, .f32⟩
  | .hbm, ⟨25, _⟩ => ⟨S4x8192x256, .f32⟩
  | _, _ => ⟨S4x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Perceptron.lean ====
/-
  Hand-written, untrusted. THE FUNCTION both programs compute, on the extended reals and without any tiling: a token has two
  coordinates `p` and `q`; each hidden unit is an affine function of them, passed through SiLU; each output is an affine
  function of the hidden units.
-/
module

public import Idealize.ShloMosaic.PureOps.Ideal
public import Idealize.ShloMosaic.Lib.Pointwise

@[expose] public section

noncomputable section

namespace Cert.Proof.Perceptron

open Idealize.ShloMosaic

/-- SiLU: a number times its logistic. -/
def silu (x : EReal) : EReal := x * Ideal.logistic x

/-- Hidden unit `e` of a token with coordinates `p` and `q`, before the activation: `p · W1[0, e] + q · W1[1, e] + b1[e]`. -/
def hiddenUnit (p q : EReal) (w1 : Fin 2 → Fin 512 → EReal) (b1 : Fin 512 → EReal) (e : Fin 512) : EReal :=
  p * w1 0 e + q * w1 1 e + b1 e

/-- Output `l` of a token with coordinates `p` and `q`: the sum over the 512 hidden units of `silu (hiddenUnit e) · W2[e, l]`,
    plus `b2[l]`. -/
def output (p q : EReal) (w1 : Fin 2 → Fin 512 → EReal) (b1 : Fin 512 → EReal) (w2 : Fin 512 → Fin 256 → EReal)
    (b2 : Fin 256 → EReal) (l : Fin 256) : EReal :=
  (∑ e : Fin 512, silu (hiddenUnit p q w1 b1 e) * w2 e l) + b2 l

/-- The logistic function written out as the host writes it, one over one plus the exponential of the negation. -/
theorem div_one_eq_logistic (x : EReal) : Ideal.div 1 (1 + Ideal.exp (-x)) = Ideal.logistic x := rfl

end Cert.Proof.Perceptron

end
-- ==== Proof.Block.lean ====
/-
  Hand-written, untrusted. WHAT ONE GRID POINT COMPUTES: the kernel body's one stored value, read at row `r` and column `l`
  of the block, is the perceptron's output `l` at the token in column `r` of the two coordinate rows it loaded. The body folds
  the first layer's bias into its matrix product by stacking a row of ones under the coordinates and the bias under the
  weights; over the extended reals that three-term product is the affine form.
-/
module

public import proofs.«01_k».proof.Proof.Gen.KernelIdeal.Skeleton
public import proofs.«01_k».proof.Proof.Perceptron

@[expose] public section

noncomputable section

namespace Cert.Proof.Block

open Idealize.ShloMosaic Cert.KernelIdeal Cert.KernelIdeal.Gen Cert.Proof.Perceptron

/-- The body's stored value at `(r, l)`, from the loaded blocks: the two coordinate rows, the two layers' weights and biases. -/
theorem stored_apply (x₁ x₂ : Vec Ideal S1x2048 .f32) (w1 : Vec Ideal S2x512 .f32) (b1 : Vec Ideal S1x512 .f32)
    (w2 : Vec Ideal S512x256 .f32) (b2 : Vec Ideal S1x256 .f32) (r : Fin 2048) (l : Fin 256) :
    k0_pay1 (F := Ideal) x₁ x₂ w1 b1 w2 b2 (ix2 r l)
      = output (x₁ (ix2 0 r)) (x₂ (ix2 0 r)) (fun i e => w1 (ix2 i e)) (fun e => b1 (ix2 0 e)) (fun e j => w2 (ix2 e j))
          (fun j => b2 (ix2 0 j)) l := by
  pointwise [k0_pay1]
  simp only [Fin.sum_univ_three]
  simp [output, silu, hiddenUnit]

end Cert.Proof.Block

end
-- ==== Proof.Rows.lean ====
/-
  Hand-written, untrusted. WHAT THE KERNEL'S ARRAY HOLDS after its sixteen grid points: row `n` is the perceptron's outputs at
  token `n`. Point `t` stages tokens `2048 t … 2048 t + 2047` of the two flattened coordinate arrays and the whole of the
  weights and biases, and writes back rows `2048 t … 2048 t + 2047` of the result; the sixteen blocks tile the 32768 rows.
-/
module

public import proofs.«01_k».proof.Proof.Gen.KernelIdeal.Frame
public import Idealize.ShloMosaic.Lib.Pipeline.Value
public import proofs.«01_k».proof.Proof.Block

@[expose] public section

noncomputable section

namespace Cert.Proof.Rows

open Idealize.ShloMosaic Idealize.ShloMosaic.TcCoe Idealize.SL.Sem
open Idealize.ShloMosaic.Pipeline (Dat)
open Cert.KernelIdeal Cert.KernelIdeal.Gen Cert.Proof.Perceptron

variable (m : (ℓ : Loc nD τ sig) → Buf (Elt Ideal) ℓ)

/-! ## The arrays that the region finds -/

/-- The six arguments as launched on core `c`. -/
abbrev pos₁ (c : Dev nD) : Vec Ideal S4x8192 .f32 := m ((c : Thread nD τ).loc main_arg0)
abbrev pos₂ (c : Dev nD) : Vec Ideal S4x8192 .f32 := m ((c : Thread nD τ).loc main_arg1)
abbrev weights₁ (c : Dev nD) : Vec Ideal S2x512 .f32 := m ((c : Thread nD τ).loc main_arg2)
abbrev bias₁ (c : Dev nD) : Vec Ideal S512 .f32 := m ((c : Thread nD τ).loc main_arg3)
abbrev weights₂ (c : Dev nD) : Vec Ideal S512x256 .f32 := m ((c : Thread nD τ).loc main_arg4)
abbrev bias₂ (c : Dev nD) : Vec Ideal S256 .f32 := m ((c : Thread nD τ).loc main_arg5)

/-- The host lays the first coordinates out as one row, -/
theorem row₁_eq (c : Dev nD) : V m c main_call0_v0 = shapeCast S1x32768 (pos₁ m c) shapeCasts_S4x8192_S1x32768 := by
  simp only [V, V0, hostOps0, List.flatten_cons, List.flatten_nil, List.append_nil]; after_results <;> rfl

/-- and the second coordinates as another; -/
theorem row₂_eq (c : Dev nD) : V m c main_call0_v1 = shapeCast S1x32768 (pos₂ m c) shapeCasts_S4x8192_S1x32768 := by
  simp only [V, V0, hostOps0, List.flatten_cons, List.flatten_nil, List.append_nil]; after_results <;> rfl

/-- the biases become rows as well. -/
theorem biasRow₁_eq (c : Dev nD) : V m c main_call0_v2 = shapeCast S1x512 (bias₁ m c) shapeCasts_S512_S1x512 := by
  simp only [V, V0, hostOps0, List.flatten_cons, List.flatten_nil, List.append_nil]; after_results <;> rfl

theorem biasRow₂_eq (c : Dev nD) : V m c main_call0_v3 = shapeCast S1x256 (bias₂ m c) shapeCasts_S256_S1x256 := by
  simp only [V, V0, hostOps0, List.flatten_cons, List.flatten_nil, List.append_nil]; after_results <;> rfl

/-- Token `n`'s place in a coordinate array: batch `n / 8192`, position `n % 8192`. -/
abbrev token (n : Fin 32768) : S4x8192.Idx := ix2 (⟨n / 8192, by omega⟩ : Fin 4) (⟨n % 8192, by omega⟩ : Fin 8192)

/-- A coordinate array laid out as one row has token `n` in column `n`. -/
theorem flat_apply (x : Vec Ideal S4x8192 .f32) (n : Fin 32768) :
    shapeCast S1x32768 x shapeCasts_S4x8192_S1x32768 (ix2 0 n) = x (token n) := by
  pointwise

/-! ## The blocks that a point stages -/

theorem index_row₁ : ∀ t : Fin grid0.N, win0_0.index t 1 = t.val := by decide +kernel
theorem index_row₂ : ∀ t : Fin grid0.N, win0_1.index t 1 = t.val := by decide +kernel
theorem index_weights₁ : ∀ (t : Fin grid0.N) (a : Fin 2), win0_2.index t a = 0 := by decide +kernel
theorem index_bias₁ : ∀ (t : Fin grid0.N) (a : Fin 2), win0_3.index t a = 0 := by decide +kernel
theorem index_weights₂ : ∀ (t : Fin grid0.N) (a : Fin 2), win0_4.index t a = 0 := by decide +kernel
theorem index_bias₂ : ∀ (t : Fin grid0.N) (a : Fin 2), win0_5.index t a = 0 := by decide +kernel
theorem index_result : ∀ t : Fin grid0.N, win0_6.index t 0 = t.val ∧ win0_6.index t 1 = 0 := by decide +kernel

/-- The token that row `r` of point `t`'s block holds. -/
def tokenOf (t : Fin cfg0.N) (r : Fin 2048) : Fin 32768 :=
  ⟨t.val * 2048 + r.val, by have h : t.val < 16 := lt_of_lt_of_eq t.isLt N_0; omega⟩

/-- Column `r` of the first coordinates' block at point `t`. -/
theorem block_row₁ (c : Dev nD) (t : Fin cfg0.N) (r : Fin 2048) :
    iblk m c 0 t (ix2 0 r) = pos₁ m c (token (tokenOf t r)) := by
  rw [← flat_apply (pos₁ m c), ← row₁_eq]
  refine congrArg (V m c main_call0_v0) (Shape.idx_ext₂ ?_ ?_ : (win0_0.rect t).emb (ix2 0 r) = ix2 0 (tokenOf t r))
  · exact Nat.lt_one_iff.mp (Fin.isLt _)
  · rw [Pipeline.Window.rect_emb_val win0_0]
    exact congrArg (· * 2048 + r.val) (index_row₁ t)

/-- Column `r` of the second coordinates' block at point `t`. -/
theorem block_row₂ (c : Dev nD) (t : Fin cfg0.N) (r : Fin 2048) :
    iblk m c 1 t (ix2 0 r) = pos₂ m c (token (tokenOf t r)) := by
  rw [← flat_apply (pos₂ m c), ← row₂_eq]
  refine congrArg (V m c main_call0_v1) (Shape.idx_ext₂ ?_ ?_ : (win0_1.rect t).emb (ix2 0 r) = ix2 0 (tokenOf t r))
  · exact Nat.lt_one_iff.mp (Fin.isLt _)
  · rw [Pipeline.Window.rect_emb_val win0_1]
    exact congrArg (· * 2048 + r.val) (index_row₂ t)

/-- The first weights' block at any point is the whole array. -/
theorem block_weights₁ (c : Dev nD) (t : Fin cfg0.N) (i : Fin 2) (e : Fin 512) :
    iblk m c 2 t (ix2 i e) = weights₁ m c (ix2 i e) := by
  rw [show weights₁ m c = V m c main_arg2 from (V_main_arg2 m c).symm]
  exact congrArg (V m c main_arg2) (Shape.idx_ext₂ (Pipeline.Window.rect_emb_val_of_index_zero win0_2 t 0 (index_weights₁ t 0) _)
    (Pipeline.Window.rect_emb_val_of_index_zero win0_2 t 1 (index_weights₁ t 1) _) : (win0_2.rect t).emb (ix2 i e) = ix2 i e)

/-- The first bias's block at any point is the bias laid out as a row. -/
theorem block_bias₁ (c : Dev nD) (t : Fin cfg0.N) (e : Fin 512) : iblk m c 3 t (ix2 0 e) = bias₁ m c (ix1 e) := by
  have h : shapeCast S1x512 (bias₁ m c) shapeCasts_S512_S1x512 (ix2 0 e) = bias₁ m c (ix1 e) := by pointwise
  rw [← h, ← biasRow₁_eq]
  exact congrArg (V m c main_call0_v2) (Shape.idx_ext₂ (Pipeline.Window.rect_emb_val_of_index_zero win0_3 t 0 (index_bias₁ t 0) _)
    (Pipeline.Window.rect_emb_val_of_index_zero win0_3 t 1 (index_bias₁ t 1) _) : (win0_3.rect t).emb (ix2 0 e) = ix2 0 e)

/-- The second weights' block at any point is the whole array. -/
theorem block_weights₂ (c : Dev nD) (t : Fin cfg0.N) (e : Fin 512) (l : Fin 256) :
    iblk m c 4 t (ix2 e l) = weights₂ m c (ix2 e l) := by
  rw [show weights₂ m c = V m c main_arg4 from (V_main_arg4 m c).symm]
  exact congrArg (V m c main_arg4) (Shape.idx_ext₂ (Pipeline.Window.rect_emb_val_of_index_zero win0_4 t 0 (index_weights₂ t 0) _)
    (Pipeline.Window.rect_emb_val_of_index_zero win0_4 t 1 (index_weights₂ t 1) _) : (win0_4.rect t).emb (ix2 e l) = ix2 e l)

/-- The second bias's block at any point is the bias laid out as a row. -/
theorem block_bias₂ (c : Dev nD) (t : Fin cfg0.N) (l : Fin 256) : iblk m c 5 t (ix2 0 l) = bias₂ m c (ix1 l) := by
  have h : shapeCast S1x256 (bias₂ m c) shapeCasts_S256_S1x256 (ix2 0 l) = bias₂ m c (ix1 l) := by pointwise
  rw [← h, ← biasRow₂_eq]
  exact congrArg (V m c main_call0_v3) (Shape.idx_ext₂ (Pipeline.Window.rect_emb_val_of_index_zero win0_5 t 0 (index_bias₂ t 0) _)
    (Pipeline.Window.rect_emb_val_of_index_zero win0_5 t 1 (index_bias₂ t 1) _) : (win0_5.rect t).emb (ix2 0 l) = ix2 0 l)

/-! ## The array after the run -/

/-- The perceptron's outputs at every token, from the arguments: row `n` for token `n`. -/
def rows (c : Dev nD) : Vec Ideal S32768x256 .f32 := fun i =>
  output (pos₁ m c (token (i 0))) (pos₂ m c (token (i 0))) (fun i e => weights₁ m c (ix2 i e)) (fun e => bias₁ m c (ix1 e))
    (fun e j => weights₂ m c (ix2 e j)) (fun j => bias₂ m c (ix1 j)) (i 1)

theorem zeros : (![0, 0] : Fin 2 → Nat) = fun _ => 0 := funext fun a => by fin_cases a <;> rfl

/-- The body's loads take the whole staged blocks and its one store fills the result's: it leaves the stored value. -/
theorem left_eq (x₁ x₂ : Vec Ideal S1x2048 .f32) (w1 : Vec Ideal S2x512 .f32) (b1 : Vec Ideal S1x512 .f32)
    (w2 : Vec Ideal S512x256 .f32) (b2 : Vec Ideal S1x256 .f32) : out0_6 x₁ x₂ w1 b1 w2 b2 = k0_pay1 x₁ x₂ w1 b1 w2 b2 := by
  unfold out0_6
  rw [View.canon_unit_zero zeros, View.ld_unit_zero zeros, View.ld_unit_zero zeros, View.ld_unit_zero zeros,
    View.ld_unit_zero zeros, View.ld_unit_zero zeros, View.ld_unit_zero zeros]

/-- Where row `r`, column `l` of point `t`'s result block lies in the array. -/
theorem place (t : Fin cfg0.N) (r : Fin 2048) (l : Fin 256) :
    (win0_6.rect t).emb (ix2 r l) = (ix2 (tokenOf t r) l : S32768x256.Idx) := by
  refine Shape.idx_ext₂ ?_ (Pipeline.Window.rect_emb_val_of_index_zero win0_6 t 1 (index_result t).2 _)
  rw [Pipeline.Window.rect_emb_val win0_6]
  exact congrArg (· * 2048 + r.val) (index_result t).1

/-- What point `t` writes back is its block of `rows`. -/
theorem written (c : Dev nD) (t : Fin cfg0.N) :
    (dats m 0 c).flushed 6 t = ((cfg0.win 6).blk t).view.read (Elt Ideal) (rows m c) := by
  show (cfg0.win 6).cut (grid0.coords t) ((dats m 0 c).after 6 t) = _
  rw [after0_6, left_eq]
  refine funext fun (y : S2048x256.Idx) => ?_
  obtain ⟨r, l, rfl⟩ : ∃ (r : Fin 2048) (l : Fin 256), y = ix2 r l := ⟨y 0, y 1, (Shape.idx_ext₂ rfl rfl)⟩
  show k0_pay1 (iblk m c 0 t) (iblk m c 1 t) (iblk m c 2 t) (iblk m c 3 t) (iblk m c 4 t) (iblk m c 5 t) (ix2 r l)
    = rows m c ((win0_6.rect t).emb (ix2 r l))
  rw [place, Block.stored_apply, block_row₁, block_row₂]
  simp only [block_weights₁, block_bias₁, block_weights₂, block_bias₂]
  rfl

/-- Every element of the result lies in the block of the point that its row falls to. -/
theorem covered (i : S32768x256.Idx) :
    ∃ t : Fin cfg0.N, (cfg0.win 6).flush t = true ∧ i ∈ ((cfg0.win 6).blk t).view.set := by
  obtain ⟨n, l, rfl⟩ : ∃ (n : Fin 32768) (l : Fin 256), i = ix2 n l := ⟨i 0, i 1, Shape.idx_ext₂ rfl rfl⟩
  let t : Fin cfg0.N := ⟨n.val / 2048, by rw [show cfg0.N = 16 from N_0]; omega⟩
  let r : Fin 2048 := ⟨n.val % 2048, Nat.mod_lt _ (by decide)⟩
  have hn : tokenOf t r = n := Fin.ext (by show n.val / 2048 * 2048 + n.val % 2048 = n.val; omega)
  have hp := place t r l
  rw [hn] at hp
  exact ⟨t, flush0_6 t, hp ▸ ((cfg0.win 6).blk t).view.emb_mem_set (ix2 r l)⟩

/-- After the grid's sixteen points the kernel's result array is `rows`. -/
theorem final (c : Dev nD) : (dats m 0 c).arrAt 6 cfg0.N = rows m c :=
  (dats m 0 c).arrAt_eq_of_cover 6 (rows m c) (fun t _ => written m c t) covered

end Cert.Proof.Rows

end
-- ==== Proof.Result.lean ====
/-
  Hand-written, untrusted. WHAT THE KERNEL RETURNS: the host splits the 32768 rows back into 4 batches of 8192 positions, so the
  result at batch `a` and position `s` is row `8192 a + s`, whose token is the one at `a`, `s`.
-/
module

public import proofs.«01_k».proof.Proof.Rows

@[expose] public section

noncomputable section

namespace Cert.Proof.Result

open Idealize.ShloMosaic Idealize.ShloMosaic.TcCoe Idealize.SL.Sem
open Cert.KernelIdeal Cert.KernelIdeal.Gen Cert.Proof.Perceptron Cert.Proof.Rows

variable (m : (ℓ : Loc nD τ sig) → Buf (Elt Ideal) ℓ) (ρ : Dev nD → PrngReg)

/-- The perceptron's outputs in the shape that the kernel returns. -/
def batches (c : Dev nD) : Vec Ideal S4x8192x256 .f32 :=
  shapeCast S4x8192x256 (rows m c) shapeCasts_S32768x256_S4x8192x256

/-- The returned buffer after the host's reshape. -/
theorem returned (c : Dev nD) : Pipeline.afterTail₀ cfgs (dats m) 0 (V0 m) [hostOps1] c main_v0 = batches m c := by
  have h := (Pipeline.withArrays_arr spec0 (by decide) c (V0 m c) (fun w => (dats m 0 c).arrAt w cfg0.N) 6).trans (final m c)
  unfold Pipeline.afterTail₀ batches
  rw [← h]
  simp only [hostOps1, List.flatten_cons, List.flatten_nil, List.append_nil]
  after_results <;> rfl

/-- Every run of the kernel ends with `batches` returned and the arguments as launched. -/
theorem run : θ_run (defs (F := Ideal)) (onTc (τ := τ) (main (F := Ideal))) ⟨m, fun _ => 0, ρ⟩ (fun r => ∀ c : Dev nD,
      r.2.mem ((c.tc : Thread nD τ).loc main_v0) = batches m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono
    (fun _ h c => ⟨((h.1 c).2 main_v0 (Pipeline.mem_restRefs_of main_v0 (by decide) (by decide))).trans (returned m c), h.2 c⟩)
    (θ_run_and (run_main m ρ) (unchanged m ρ))

/-- The returned array at batch `a`, position `s`, output `l`. -/
theorem batches_apply (c : Dev nD) (a : Fin 4) (s : Fin 8192) (l : Fin 256) :
    batches m c (ix3 a s l)
      = output (pos₁ m c (ix2 a s)) (pos₂ m c (ix2 a s)) (fun i e => weights₁ m c (ix2 i e)) (fun e => bias₁ m c (ix1 e))
          (fun e j => weights₂ m c (ix2 e j)) (fun j => bias₂ m c (ix1 j)) l := by
  let n : Fin 32768 := ⟨a.val * 8192 + s.val, by omega⟩
  have hn : token n = ix2 a s :=
    Shape.idx_ext₂ (by show (a.val * 8192 + s.val) / 8192 = a.val; omega) (by show (a.val * 8192 + s.val) % 8192 = s.val; omega)
  have h : batches m c (ix3 a s l) = rows m c (ix2 n l) := by
    pointwise [batches]
    rfl
  rw [h, ← hn]
  rfl

end Cert.Proof.Result

end
-- ==== Proof.Reference.lean ====
/-
  Hand-written, untrusted. WHAT THE REFERENCE COMPUTES: its result array, read at batch `a`, position `s` and column `l`, is the
  perceptron's output `l` at the token whose coordinates the two coordinate arrays hold at `a`, `s`.
-/
module

public import proofs.«01_k».proof.Proof.Gen.ReferenceIdeal
public import proofs.«01_k».proof.Proof.Perceptron

@[expose] public section

noncomputable section

namespace Cert.Proof.Reference

open Idealize.ShloMosaic Cert.ReferenceIdeal Cert.ReferenceIdeal.Gen Cert.Proof.Perceptron

/-- The reference's hidden layer before the activation: the stacked coordinates times the first weights, plus the first bias. -/
def layer1 (x₁ x₂ : FVec Ideal S4x8192 .f32) (w1 : FVec Ideal S2x512 .f32) (b1 : FVec Ideal S512 .f32) :
    FVec Ideal S4x8192x512 .f32 :=
  addf (Host.dotGeneral dot_S4x8192x2_S2x512_S4x8192x512_2_0_01_1_n_n none
      (concatenate S4x8192x2 2
        [⟨S4x8192x1, broadcastInDim S4x8192x1 ![0, 1] bcast_S4x8192_S4x8192x1_0_1 x₁⟩,
          ⟨S4x8192x1, broadcastInDim S4x8192x1 ![0, 1] bcast_S4x8192_S4x8192x1_0_1 x₂⟩]
        concatenates_S4x8192x1_S4x8192x1_S4x8192x2_d2) w1)
    (broadcastInDim S4x8192x512 ![0, 1, 2] bcast_S1x1x512_S4x8192x512_0_1_2
      (broadcastInDim S1x1x512 ![2] bcast_S512_S1x1x512_2 b1))

/-- An array of ones of the hidden layer's shape, as the host makes it. -/
def ones : FVec Ideal S4x8192x512 .f32 :=
  broadcastInDim S4x8192x512 ![] bcast_S_S4x8192x512 (constant S_ .f32 0x3F800000#32)

/-- The reference's activation: the array times the logistic of it, the logistic written out. -/
def activate (h : FVec Ideal S4x8192x512 .f32) : FVec Ideal S4x8192x512 .f32 :=
  mulf h (Host.divf ones (addf ones (Host.exp (Host.negf h))))

/-- The reference's second layer. -/
def layer2 (h : FVec Ideal S4x8192x512 .f32) (w2 : FVec Ideal S512x256 .f32) (b2 : FVec Ideal S256 .f32) :
    FVec Ideal S4x8192x256 .f32 :=
  addf (Host.dotGeneral dot_S4x8192x512_S512x256_S4x8192x256_2_0_01_1_n_n none h w2)
    (broadcastInDim S4x8192x256 ![0, 1, 2] bcast_S1x1x256_S4x8192x256_0_1_2
      (broadcastInDim S1x1x256 ![2] bcast_S256_S1x1x256_2 b2))

/-- The first layer at batch `a`, position `s`, unit `e`. -/
theorem layer1_apply (x₁ x₂ : FVec Ideal S4x8192 .f32) (w1 : FVec Ideal S2x512 .f32) (b1 : FVec Ideal S512 .f32)
    (a : Fin 4) (s : Fin 8192) (e : Fin 512) :
    layer1 x₁ x₂ w1 b1 (ix3 a s e)
      = hiddenUnit (x₁ (ix2 a s)) (x₂ (ix2 a s)) (fun i e => w1 (ix2 i e)) (fun e => b1 (ix1 e)) e := by
  pointwise [layer1]
  simp [hiddenUnit]

/-- The activation at an index. -/
theorem activate_apply (h : FVec Ideal S4x8192x512 .f32) (i : S4x8192x512.Idx) : activate h i = silu (h i) := by
  pointwise [activate, ones]
  simp [silu, Ideal.logistic]

/-- The second layer at batch `a`, position `s`, output `l`. -/
theorem layer2_apply (h : FVec Ideal S4x8192x512 .f32) (w2 : FVec Ideal S512x256 .f32) (b2 : FVec Ideal S256 .f32)
    (a : Fin 4) (s : Fin 8192) (l : Fin 256) :
    layer2 h w2 b2 (ix3 a s l) = (∑ e : Fin 512, h (ix3 a s e) * w2 (ix2 e l)) + b2 (ix1 l) := by
  pointwise [layer2]

/-- The reference's result at batch `a`, position `s`, output `l`. -/
theorem result_apply (x₁ x₂ : FVec Ideal S4x8192 .f32) (w1 : FVec Ideal S2x512 .f32) (b1 : FVec Ideal S512 .f32)
    (w2 : FVec Ideal S512x256 .f32) (b2 : FVec Ideal S256 .f32) (a : Fin 4) (s : Fin 8192) (l : Fin 256) :
    layer2 (activate (layer1 x₁ x₂ w1 b1)) w2 b2 (ix3 a s l)
      = output (x₁ (ix2 a s)) (x₂ (ix2 a s)) (fun i e => w1 (ix2 i e)) (fun e => b1 (ix1 e)) (fun e j => w2 (ix2 e j))
          (fun j => b2 (ix1 j)) l := by
  rw [layer2_apply]
  simp only [activate_apply, layer1_apply, output]

end Cert.Proof.Reference

end
-- ==== Proof.lean ====
/-
  Hand-written, untrusted. THE CERTIFICATE: the three frames are the generated ones, the idealization rewrote nothing, and the
  kernel's result array and the reference's both hold the perceptron's outputs at every token (`Result.batches`).
-/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates without fault, keeps its arguments, and has no semaphore. -/
theorem reference_frame : quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Kernel and reference compute one function: from arguments that agree both result arrays are `Result.batches`. -/
theorem same_function : algebraic_KernelIdeal_ReferenceIdeal := by
  intro m ρ m' ρ' _ hagree
  refine ⟨fun c => Result.batches m c, Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5]
  refine funext fun (i : Cert.KernelIdeal.S4x8192x256.Idx) => ?_
  obtain ⟨a, s, l, rfl⟩ : ∃ (a : Fin 4) (s : Fin 8192) (l : Fin 256), i = ix3 a s l :=
    ⟨i 0, i 1, i 2, funext fun d => by fin_cases d <;> rfl⟩
  exact (Reference.result_apply (Rows.pos₁ m c) (Rows.pos₂ m c) (Rows.weights₁ m c) (Rows.bias₁ m c) (Rows.weights₂ m c)
    (Rows.bias₂ m c) a s l).trans (Result.batches_apply m c a s l).symm

/-- The claims: the kernel's frame on machine words and over the extended reals, the reference's frame, the idealization, and
    that kernel and reference compute the same function. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_function⟩

end Cert.Proof

end
